-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x4096 : Shape := ⟨2, ![4096, 4096]⟩
abbrev S1x1 : Shape := ⟨2, ![1, 1]⟩
abbrev S_ : Shape := ⟨0, ![]⟩
abbrev S256x4096 : Shape := ⟨2, ![256, 4096]⟩
abbrev S256x512 : Shape := ⟨2, ![256, 512]⟩
abbrev S256 : Shape := ⟨1, ![256]⟩
abbrev S256x1 : Shape := ⟨2, ![256, 1]⟩
abbrev S1x256x512 : Shape := ⟨3, ![1, 256, 512]⟩
abbrev S1 : Shape := ⟨1, ![1]⟩
abbrev S1x1x1 : Shape := ⟨3, ![1, 1, 1]⟩
abbrev S1x256x4096 : Shape := ⟨3, ![1, 256, 4096]⟩

abbrev nBuf : Space → Nat
  | .hbm => 14
  | .vmem => 11
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x512, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S4096x512, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x512, .f32⟩
  | .local _ .vmem, ⟨8, _⟩ => ⟨S256x512, .f32⟩
  | .local _ .vmem, ⟨9, _⟩ => ⟨S1x1, .f32⟩
  | .local _ .vmem, ⟨10, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_1 : Ref sig .tc := ⟨.hbm, 3, rfl⟩
abbrev main_v0_2 : Ref sig .tc := ⟨.hbm, 4, rfl⟩
abbrev main_v0_0 : Ref sig .tc := ⟨.hbm, 5, rfl⟩
abbrev main_call0_v0_3 : Ref sig .tc := ⟨.hbm, 6, rfl⟩
abbrev main_call0_v0_4 : Ref sig .tc := ⟨.hbm, 7, rfl⟩
abbrev main_call0_v1 : Ref sig .tc := ⟨.hbm, 8, rfl⟩
abbrev main_call0_cst : Ref sig .tc := ⟨.hbm, 9, rfl⟩
abbrev main_v0_4 : Ref sig .tc := ⟨.hbm, 10, rfl⟩
abbrev main_call0_v3 : Ref sig .tc := ⟨.hbm, 11, rfl⟩
abbrev main_call0_cst_0 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v122 : BitVec 32 := Scalar.muli arg0 c256_i32
  let v123 : Index := Scalar.indexCast v122
  let c0_43 : Index := 0#32
  ![v123.toNat, 0]
def k0_cond1 (i : grid0.Coords) : BitVec 1 :=
  let arg0 : BitVec 32 := BitVec.ofNat 32 (i 0).val
  let c0_i32 : BitVec 32 := 0#32
  let v147 : BitVec 1 := Scalar.cmpi .eq arg0 c0_i32
  let v148 : BitVec 32 := Scalar.extui v147
  let c0_i32_48 : BitVec 32 := 0#32
  let v149 : BitVec 1 := Scalar.cmpi .ne v148 c0_i32_48
  v149

def k0_cond2 (i : grid0.Coords) : BitVec 1 :=
  let arg0 : BitVec 32 := BitVec.ofNat 32 (i 0).val
  let c0_i32_49 : BitVec 32 := 0#32
  let v150 : BitVec 1 := Scalar.cmpi .sgt arg0 c0_i32_49
  let v151 : BitVec 32 := Scalar.extui v150
  let c0_i32_50 : BitVec 32 := 0#32
  let v152 : BitVec 1 := Scalar.cmpi .ne v151 c0_i32_50
  v152

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x512 : Shape := ⟨2, ![4096, 512]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x8 : Shape := ⟨2, ![4096, 8]⟩
abbrev S4096x8x1 : Shape := ⟨3, ![4096, 8, 1]⟩
abbrev S4096x8x2 : Shape := ⟨3, ![4096, 8, 2]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x4096, .f32⟩
  | .hbm, ⟨11, _⟩ => ⟨S4096x4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x8, .f32⟩
  | .hbm, ⟨19, _⟩ => ⟨S4096x8, .i32⟩
  | .hbm, ⟨20, _⟩ => ⟨S4096, .i32⟩
  | .hbm, ⟨21, _⟩ => ⟨S4096x1, .i32⟩
  | .hbm, ⟨22, _⟩ => ⟨S4096x8, .i32⟩
  | .hbm, ⟨23, _⟩ => ⟨S_, .i32⟩
  | .hbm, ⟨24, _⟩ => ⟨S4096x8, .i32⟩
  | .hbm, ⟨25, _⟩ => ⟨S4096x8, .i1⟩
  | .hbm, ⟨26, _⟩ => ⟨S_, .i32⟩
  | .hbm, ⟨27, _⟩ => ⟨S4096x8, .i32⟩
  | .hbm, ⟨28, _⟩ => ⟨S4096x8, .i32⟩
  | .hbm, ⟨29, _⟩ => ⟨S4096x8, .i32⟩
  | .hbm, ⟨30, _⟩ => ⟨S_, .i32⟩
  | .hbm, ⟨31, _⟩ => ⟨S4096x8, .i32⟩
  | .hbm, ⟨32, _⟩ => ⟨S4096x8, .i1⟩
  | .hbm, ⟨33, _⟩ => ⟨S_, .i32⟩
  | .hbm, ⟨34, _⟩ => ⟨S4096x8, .i32⟩
  | .hbm, ⟨35, _⟩ => ⟨S4096x8, .i32⟩
  | .hbm, ⟨36, _⟩ => ⟨S4096x8, .i32⟩
  | .hbm, ⟨37, _⟩ => ⟨S4096x8x1, .i32⟩
  | .hbm, ⟨38, _⟩ => ⟨S4096x8x1, .i32⟩
  | .hbm, ⟨39, _⟩ => ⟨S4096x8x2, .i32⟩
  | .hbm, ⟨40, _⟩ => ⟨S4096x8, .f32⟩
  | .hbm, ⟨41, _⟩ => ⟨S_, .f32⟩
  | .hbm, ⟨42, _⟩ => ⟨S4096x4096, .f32⟩
  | .hbm, ⟨43, _⟩ => ⟨S_, .i32⟩
  | .hbm, ⟨44, _⟩ => ⟨S4096x8, .i32⟩
  | .hbm, ⟨45, _⟩ => ⟨S4096x8, .i1⟩
  | .hbm, ⟨46, _⟩ => ⟨S_, .i32⟩
  | .hbm, ⟨47, _⟩ => ⟨S4096x8, .i32⟩
  | .hbm, ⟨48, _⟩ => ⟨S4096x8, .i32⟩
  | .hbm, ⟨49, _⟩ => ⟨S4096x8, .i32⟩
  | .hbm, ⟨50, _⟩ => ⟨S_, .i32⟩
  | .hbm, ⟨51, _⟩ => ⟨S4096x8, .i32⟩
  | .hbm, ⟨52, _⟩ => ⟨S4096x8, .i1⟩
  | .hbm, ⟨53, _⟩ => ⟨S_, .i32⟩
  | .hbm, ⟨54, _⟩ => ⟨S4096x8, .i32⟩
  | .hbm, ⟨55, _⟩ => ⟨S4096x8, .i32⟩
  | .hbm, ⟨56, _⟩ => ⟨S4096x8, .i32⟩
  | .hbm, ⟨57, _⟩ => ⟨S4096x8x1, .i32⟩
  | .hbm, ⟨58, _⟩ => ⟨S4096x8x1, .i32⟩
  | .hbm, ⟨59, _⟩ => ⟨S4096x8x2, .i32⟩
  | .hbm, ⟨60, _⟩ => ⟨S4096x4096, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_values : Ref sig .tc := ⟨.hbm, 18, rfl⟩
abbrev main_indices : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Proof.Rows.lean ====
/-
  The order of a row's entries, greatest first and the leftmost of equal entries first. An entry's RANK is how many
  entries come before it. Two ways to take the first few entries of this order are compared with it: taking the first
  greatest entry again and again, each time putting a small value in its place, and a stable sort.
-/
module

public import Mathlib.Data.EReal.Basic
public import Mathlib.Data.Fintype.EquivFin
public import Idealize.ShloMosaic.Lib.SortPrefix

@[expose] public section

noncomputable section

namespace Cert.Rows

open Idealize.ShloMosaic

variable {α : Type} [LinearOrder α] {n : ℕ}

/-- Position `k` comes before position `j`: its entry is greater, or the same and further to the left. -/
def Ahead (x : Fin n → α) (k j : Fin n) : Prop := x j < x k ∨ (x k = x j ∧ k < j)

instance (x : Fin n → α) (k j : Fin n) : Decidable (Ahead x k j) := by unfold Ahead; infer_instance

/-- How many positions come before `j`. -/
def rank (x : Fin n → α) (j : Fin n) : ℕ := (Finset.univ.filter fun k => Ahead x k j).card

theorem ahead_irrefl (x : Fin n → α) (j : Fin n) : ¬ Ahead x j j := by
  rintro (h | h)
  · exact lt_irrefl _ h
  · exact lt_irrefl _ h.2

theorem ahead_trans {x : Fin n → α} {a b c : Fin n} (h : Ahead x a b) (h' : Ahead x b c) : Ahead x a c := by
  rcases h with h | ⟨e, l⟩ <;> rcases h' with h' | ⟨e', l'⟩
  · exact .inl (h'.trans h)
  · exact .inl (e' ▸ h)
  · exact .inl (e ▸ h')
  · exact .inr ⟨e.trans e', l.trans l'⟩

theorem ahead_total (x : Fin n → α) {a b : Fin n} (h : a ≠ b) : Ahead x a b ∨ Ahead x b a := by
  rcases lt_trichotomy (x a) (x b) with l | e | l
  · exact .inr (.inl l)
  · rcases lt_or_gt_of_ne h with l | l
    · exact .inl (.inr ⟨e, l⟩)
    · exact .inr (.inr ⟨e.symm, l⟩)
  · exact .inl (.inl l)

/-- What comes before has the smaller rank. -/
theorem rank_lt_of_ahead {x : Fin n → α} {k j : Fin n} (h : Ahead x k j) : rank x k < rank x j := by
  refine Finset.card_lt_card ⟨fun i hi => ?_, fun hs => ?_⟩
  · simp only [Finset.mem_filter, Finset.mem_univ, true_and] at hi ⊢
    exact ahead_trans hi h
  · have := hs (Finset.mem_filter.mpr ⟨Finset.mem_univ k, h⟩)
    simp only [Finset.mem_filter, Finset.mem_univ, true_and] at this
    exact ahead_irrefl x k this

/-- The rank tells which of two positions comes before the other. -/
theorem ahead_iff (x : Fin n → α) (k j : Fin n) : Ahead x k j ↔ rank x k < rank x j := by
  refine ⟨rank_lt_of_ahead, fun h => ?_⟩
  by_cases e : k = j
  · subst e; exact absurd h (lt_irrefl _)
  · rcases ahead_total x e with h' | h'
    · exact h'
    · exact absurd (rank_lt_of_ahead h') (by omega)

/-- Different positions have different ranks. -/
theorem rank_inj {x : Fin n → α} {k j : Fin n} (h : rank x k = rank x j) : k = j := by
  by_contra e
  rcases ahead_total x e with h' | h'
  · exact absurd (rank_lt_of_ahead h') (by omega)
  · exact absurd (rank_lt_of_ahead h') (by omega)

theorem rank_lt (x : Fin n → α) (j : Fin n) : rank x j < n := by
  refine (Finset.card_lt_card (t := Finset.univ) ⟨Finset.subset_univ _, fun hs => ?_⟩).trans_eq (by simp)
  have := hs (Finset.mem_univ j)
  simp only [Finset.mem_filter, Finset.mem_univ, true_and] at this
  exact ahead_irrefl x j this

/-- Every rank below the row's length is taken. -/
theorem exists_rank (x : Fin n → α) (i : Fin n) : ∃ j, rank x j = i := by
  have hinj : Function.Injective fun j : Fin n => (⟨rank x j, rank_lt x j⟩ : Fin n) :=
    fun a b h => rank_inj (Fin.mk.inj h)
  obtain ⟨j, hj⟩ := (Finite.injective_iff_surjective.mp hinj) i
  exact ⟨j, congrArg Fin.val hj⟩

/-- Rows ordered alike have the same ranks. -/
theorem rank_congr {β : Type} [LinearOrder β] {x : Fin n → α} {y : Fin n → β} (h : ∀ k j, x k < x j ↔ y k < y j) :
    rank x = rank y := by
  funext j
  unfold rank
  congr 1
  refine Finset.filter_congr fun k _ => ?_
  have e : x k = x j ↔ y k = y j := by
    constructor
    · intro e
      exact le_antisymm (not_lt.mp fun l => (lt_irrefl _ (e ▸ (h j k).mpr l)))
        (not_lt.mp fun l => (lt_irrefl _ (e ▸ (h k j).mpr l)))
    · intro e
      exact le_antisymm (not_lt.mp fun l => (lt_irrefl _ (e ▸ (h j k).mp l)))
        (not_lt.mp fun l => (lt_irrefl _ (e ▸ (h k j).mp l)))
  unfold Ahead
  rw [h j k, e]

/-! ## Taking the first greatest entry again and again -/

/-- Position `j` holds the row's first greatest entry. -/
def IsFirst (x : Fin n → α) (j : Fin n) : Prop := ∀ k, x k ≤ x j ∧ (x k = x j → j ≤ k)

/-- The row with its first `i` entries, in the order, replaced by `m`. -/
def cut (m : α) (x : Fin n → α) (i : ℕ) (j : Fin n) : α := if rank x j < i then m else x j

theorem cut_zero (m : α) (x : Fin n → α) : cut m x 0 = x := by
  funext j
  simp [cut]

/-- With the first `i` entries replaced by something less than all entries, the first greatest entry is the one of
    rank `i`. -/
theorem isFirst_cut {m : α} {x : Fin n → α} (hm : ∀ j, m < x j) {i : ℕ} (hi : i < n) (j : Fin n) :
    IsFirst (cut m x i) j ↔ rank x j = i := by
  constructor
  · intro h
    obtain ⟨j₀, h₀⟩ := exists_rank x ⟨i, hi⟩
    have h₀ : rank x j₀ = i := h₀
    have c₀ : cut m x i j₀ = x j₀ := if_neg (by omega)
    obtain ⟨hle, heq⟩ := h j₀
    rw [c₀] at hle heq
    by_cases hr : rank x j < i
    · have cj : cut m x i j = m := if_pos hr
      rw [cj] at hle
      exact absurd (hm j₀) (not_lt.mpr hle)
    · have cj : cut m x i j = x j := if_neg hr
      rw [cj] at hle heq
      by_contra hne
      rcases (ahead_iff x j₀ j).mpr (by omega) with l | ⟨e, l⟩
      · exact absurd l (not_lt.mpr hle)
      · exact absurd l (not_lt.mpr (heq e))
  · intro h k
    have cj : cut m x i j = x j := if_neg (by omega)
    rw [cj]
    by_cases hr : rank x k < i
    · have ck : cut m x i k = m := if_pos hr
      rw [ck]
      exact ⟨(hm j).le, fun e => absurd (hm j) (by rw [e]; exact lt_irrefl _)⟩
    · have ck : cut m x i k = x k := if_neg hr
      rw [ck]
      have hna : ¬ Ahead x k j := fun ha => absurd (rank_lt_of_ahead ha) (by omega)
      exact ⟨not_lt.mp fun l => hna (.inl l), fun e => not_lt.mp fun l => hna (.inr ⟨e, l⟩)⟩

/-- Replacing the first greatest entry as well replaces one entry more. -/
theorem cut_succ {m : α} {x : Fin n → α} (hm : ∀ j, m < x j) {i : ℕ} (hi : i < n) (j : Fin n) [Decidable (IsFirst (cut m x i) j)] :
    (if IsFirst (cut m x i) j then m else cut m x i j) = cut m x (i + 1) j := by
  by_cases h : IsFirst (cut m x i) j
  · rw [if_pos h]
    exact (if_pos (by have := (isFirst_cut hm hi j).mp h; omega)).symm
  · rw [if_neg h]
    have hne : rank x j ≠ i := fun e => h ((isFirst_cut hm hi j).mpr e)
    unfold cut
    by_cases hr : rank x j < i
    · rw [if_pos hr, if_pos (by omega)]
    · rw [if_neg hr, if_neg (by omega)]

/-! ## The stable sort, greatest first -/

/-- A stable sort of a list depends on the comparison of a later element with an earlier one alone. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The comparison "comes before", as a truth value. -/
def aheadB (x : Fin n → α) (k j : Fin n) : Bool := decide (Ahead x k j)

theorem aheadB_strict (x : Fin n → α) : StrictTotalBefore (aheadB x) where
  irrefl a := by simp [aheadB, ahead_irrefl]
  trans a b c h h' := by
    simp only [aheadB, decide_eq_true_eq] at h h' ⊢
    exact ahead_trans h h'
  total a b h := by
    simp only [aheadB, decide_eq_true_eq]
    exact ahead_total x h

/-- A stable sort, greater entries first, puts the entry of rank `i` at place `i`. -/
theorem rank_sortedFrom (x : Fin n → α) (B : Fin n → Fin n → Bool) (hB : ∀ k j, B k j = decide (x j < x k)) (i : Fin n) :
    rank x (sortedFrom B i) = i := by
  have hs : sortPositions n B = sortPositions n (aheadB x) := by
    refine stableSort_congr_later _ _ _ ((List.pairwise_lt_finRange n).imp fun {a b} hab => ?_)
    rw [hB]
    unfold aheadB Ahead
    refine decide_eq_decide.mpr ⟨.inl, ?_⟩
    rintro (h | h)
    · exact h
    · exact absurd (hab.trans h.2) (lt_irrefl _)
  have he : sortedFrom B = sortedFrom (aheadB x) := by
    funext k
    unfold sortedFrom
    rw [List.get_of_eq hs]
    rfl
  rw [he]
  choose σ hσ using exists_rank x
  have hpre := (aheadB_strict x).sortedFrom_eq_of_prefix le_rfl σ
    (fun a b h => Fin.ext (by rw [← hσ a, ← hσ b, h]))
    (fun a b hab => by
      simp only [aheadB, decide_eq_false_iff_not, ahead_iff, hσ]
      have : a.val < b.val := hab
      omega)
    (fun a p hp => absurd (rank_inj (hσ ⟨rank x p, rank_lt x p⟩)) (hp _)) i
  have : sortedFrom (aheadB x) i = σ i := hpre
  rw [this, hσ]

end Cert.Rows

end
-- ==== Proof.Norm.lean ====
/-
  A row of non-negative entries scaled to its range: the row's least and greatest entry, its normalization, and the
  difference of its two normalizations. Where the greatest entry is infinite everything scaled is zero; elsewhere all
  values are real and the scaling keeps the order.
-/
module

public import proofs.«01_k».proof.Proof.Rows
public import Idealize.ShloMosaic.Lib.IdealHost

@[expose] public section

noncomputable section

namespace Cert.Rows

open Idealize.ShloMosaic

variable {n : ℕ}

/-- The small number added to each divisor. -/
def eps : EReal := Ideal.ofBits .f32 0x322BCC77#32

/-- The row's least entry. -/
def lo (a : Fin n → EReal) : EReal := Finset.univ.fold min (Ideal.ofBits .f32 0x7F800000#32) a

/-- The row's greatest entry. -/
def hi (a : Fin n → EReal) : EReal := Finset.univ.fold max (Ideal.ofBits .f32 0xFF800000#32) a

theorem ofBits_inf : Ideal.ofBits .f32 0x7F800000#32 = ⊤ := by simp [Ideal.ofBits, Ideal.ieee]

theorem ofBits_neg_inf : Ideal.ofBits .f32 0xFF800000#32 = ⊥ := by simp [Ideal.ofBits, Ideal.ieee]

/-- The value put in a selected entry's place is negative. -/
theorem ofBits_neg_one_lt : Ideal.ofBits .f32 0xBF800000#32 < 0 := by
  have h : Ideal.ofBits .f32 0xBF800000#32 = ((-(1 : ℝ)) : EReal) := by
    simp [Ideal.ofBits, Ideal.ieee, -EReal.coe_mul, -EReal.coe_neg]; norm_num
  rw [h]
  exact EReal.coe_neg'.mpr (by norm_num)

/-- The small number is real and positive. -/
theorem exists_eps : ∃ e : ℝ, eps = (e : EReal) ∧ 0 < e := by
  refine ⟨_, by unfold eps; simp [Ideal.ofBits, Ideal.ieee, -EReal.coe_mul]; rfl, by positivity⟩

theorem lo_le (a : Fin n → EReal) (j : Fin n) : lo a ≤ a j :=
  (Finset.le_fold_min _).mp (le_refl (lo a)) |>.2 j (Finset.mem_univ j)

theorem le_hi (a : Fin n → EReal) (j : Fin n) : a j ≤ hi a :=
  (Finset.fold_max_le _).mp (le_refl (hi a)) |>.2 j (Finset.mem_univ j)

theorem lo_nonneg {a : Fin n → EReal} (ha : ∀ j, 0 ≤ a j) : 0 ≤ lo a :=
  (Finset.le_fold_min _).mpr ⟨by rw [ofBits_inf]; exact le_top, fun j _ => ha j⟩

/-- The divisor of the normalization. -/
def spread (a : Fin n → EReal) : EReal := hi a - lo a + eps

/-- The divisor of the comparison's normalization. -/
def top (a : Fin n → EReal) : EReal := hi a + eps

/-- The row scaled to its range. -/
def norm (a : Fin n → EReal) (j : Fin n) : EReal := Ideal.div (a j - lo a) (spread a)

/-- The row's real values, where the greatest entry is not infinite. -/
theorem exists_real [NeZero n] {a : Fin n → EReal} (ha : ∀ j, 0 ≤ a j) (h : hi a ≠ ⊤) :
    ∃ (x : Fin n → ℝ) (l g e : ℝ), (∀ j, a j = (x j : EReal)) ∧ lo a = (l : EReal) ∧ hi a = (g : EReal) ∧
      eps = (e : EReal) ∧ 0 < e ∧ 0 ≤ l ∧ (∀ j, l ≤ x j) ∧ l ≤ g := by
  have real_of : ∀ y : EReal, 0 ≤ y → y ≤ hi a → ∃ r : ℝ, y = (r : EReal) := fun y h0 hy =>
    ⟨y.toReal, (EReal.coe_toReal (fun e => h (top_le_iff.mp (e ▸ hy)))
      (fun e => absurd (e ▸ h0) (by simp))).symm⟩
  have h0 := lo_nonneg ha
  have hlj := lo_le a (0 : Fin n)
  have hj := le_hi a (0 : Fin n)
  choose x hx using fun j => real_of (a j) (ha j) (le_hi a j)
  obtain ⟨l, hl⟩ := real_of (lo a) h0 (hlj.trans hj)
  obtain ⟨g, hg⟩ := real_of (hi a) ((ha 0).trans hj) le_rfl
  obtain ⟨e, he, hpos⟩ := exists_eps
  refine ⟨x, l, g, e, hx, hl, hg, he, hpos, ?_, fun j => ?_, ?_⟩
  · rw [hl] at h0; exact_mod_cast h0
  · have := lo_le a j
    rw [hl, hx] at this; exact_mod_cast this
  · have := hlj.trans hj
    rw [hl, hg] at this; exact_mod_cast this

/-- Where the greatest entry is infinite the divisors are infinite too. -/
theorem spread_of_top {a : Fin n → EReal} (ha : ∀ j, 0 ≤ a j) (h : hi a = ⊤) :
    (spread a)⁻¹ = 0 ∧ spread a ≠ 0 := by
  obtain ⟨e, he, _⟩ := exists_eps
  have h0 := lo_nonneg ha
  unfold spread
  rw [h, he]
  generalize lo a = l at h0 ⊢
  induction l with
  | bot => exact absurd h0 (by simp)
  | top => simp
  | coe l => simp

theorem top_of_top {a : Fin n → EReal} (h : hi a = ⊤) : top a = ⊤ := by
  obtain ⟨e, he, _⟩ := exists_eps
  unfold top
  rw [h, he]
  simp

theorem spread_ne_zero [NeZero n] {a : Fin n → EReal} (ha : ∀ j, 0 ≤ a j) : spread a ≠ 0 := by
  by_cases h : hi a = ⊤
  · exact (spread_of_top ha h).2
  · obtain ⟨x, l, g, e, hx, hl, hg, he, hpos, h0, hlx, hlg⟩ := exists_real ha h
    unfold spread
    rw [hl, hg, he]
    intro hz
    have : g - l + e = 0 := by exact_mod_cast hz
    linarith

theorem top_ne_zero [NeZero n] {a : Fin n → EReal} (ha : ∀ j, 0 ≤ a j) : top a ≠ 0 := by
  by_cases h : hi a = ⊤
  · rw [top_of_top h]; simp
  · obtain ⟨x, l, g, e, hx, hl, hg, he, hpos, h0, hlx, hlg⟩ := exists_real ha h
    unfold top
    rw [hg, he]
    intro hz
    have : g + e = 0 := by exact_mod_cast hz
    linarith

/-- Multiplying by the divisor's reciprocal scales as dividing does. -/
theorem mul_inv_eq_norm [NeZero n] {a : Fin n → EReal} (ha : ∀ j, 0 ≤ a j) (j : Fin n) :
    (a j - lo a) * Ideal.div 1 (spread a) = norm a j :=
  Ideal.mul_one_div (spread_ne_zero ha)

/-- Where the greatest entry is infinite the scaled row is zero. -/
theorem norm_of_top {a : Fin n → EReal} (ha : ∀ j, 0 ≤ a j) (h : hi a = ⊤) (j : Fin n) : norm a j = 0 := by
  obtain ⟨h1, h2⟩ := spread_of_top ha h
  unfold norm Ideal.div
  rw [if_neg h2, h1, mul_zero]

/-- The scaled row's real values, where the greatest entry is not infinite. -/
theorem exists_norm_real [NeZero n] {a : Fin n → EReal} (ha : ∀ j, 0 ≤ a j) (h : hi a ≠ ⊤) :
    ∃ (x : Fin n → ℝ) (l d : ℝ), 0 < d ∧ (∀ j, a j = (x j : EReal)) ∧ (∀ j, l ≤ x j) ∧
      ∀ j, norm a j = (((x j - l) * d : ℝ) : EReal) := by
  obtain ⟨x, l, g, e, hx, hl, hg, he, hpos, h0, hlx, hlg⟩ := exists_real ha h
  refine ⟨x, l, (g - l + e)⁻¹, inv_pos.mpr (by linarith), hx, hlx, fun j => ?_⟩
  have hs : spread a = ((g - l + e : ℝ) : EReal) := by unfold spread; rw [hl, hg, he]; norm_cast
  have hne := spread_ne_zero ha
  unfold norm Ideal.div
  rw [if_neg hne, hs, hl, hx, ← EReal.coe_inv]
  norm_cast

/-- The scaled row is not negative. -/
theorem norm_nonneg [NeZero n] {a : Fin n → EReal} (ha : ∀ j, 0 ≤ a j) (j : Fin n) : 0 ≤ norm a j := by
  by_cases h : hi a = ⊤
  · rw [norm_of_top ha h]
  · obtain ⟨x, l, d, hd, hx, hlx, hn⟩ := exists_norm_real ha h
    rw [hn]
    exact EReal.coe_nonneg.mpr (mul_nonneg (sub_nonneg.mpr (hlx j)) hd.le)

/-- Keeping the first `i` entries of the scaled row by the row's own order or by the scaled row's is the same. -/
theorem keep_eq [NeZero n] {a : Fin n → EReal} (ha : ∀ j, 0 ≤ a j) (i : ℕ) (j : Fin n) :
    (if rank (norm a) j < i then norm a j else 0) = if rank a j < i then norm a j else 0 := by
  by_cases h : hi a = ⊤
  · rw [norm_of_top ha h]
    simp
  · obtain ⟨x, l, d, hd, hx, hlx, hn⟩ := exists_norm_real ha h
    have hr : rank (norm a) = rank a := rank_congr fun k j => by
      rw [hn, hn, hx, hx, EReal.coe_lt_coe_iff, EReal.coe_lt_coe_iff, mul_lt_mul_iff_left₀ hd]
      exact sub_lt_sub_iff_right l
    rw [hr]

/-- The difference of the two scalings: the entry times the difference of the reciprocals is the difference of the
    quotients. -/
theorem mul_sub_inv [NeZero n] {a : Fin n → EReal} (ha : ∀ j, 0 ≤ a j) (j : Fin n) :
    (a j - lo a) * (Ideal.div 1 (spread a) - Ideal.div 1 (top a)) = norm a j - Ideal.div (a j - lo a) (top a) := by
  have hs := spread_ne_zero ha
  have ht := top_ne_zero ha
  unfold norm Ideal.div
  rw [if_neg hs, if_neg ht, if_neg hs, if_neg ht, one_mul, one_mul]
  by_cases h : hi a = ⊤
  · rw [(spread_of_top ha h).1, top_of_top h]
    simp
  · obtain ⟨x, l, g, e, hx, hl, hg, he, hpos, h0, hlx, hlg⟩ := exists_real ha h
    have hs' : spread a = ((g - l + e : ℝ) : EReal) := by unfold spread; rw [hl, hg, he]; norm_cast
    have ht' : top a = ((g + e : ℝ) : EReal) := by unfold top; rw [hg, he]; norm_cast
    rw [hs', ht', hl, hx, ← EReal.coe_inv, ← EReal.coe_inv]
    norm_cast
    ring

/-- The magnitude of an extended real. -/
def mag (x : EReal) : EReal := max x (-x)

theorem mag_nonneg (x : EReal) : 0 ≤ mag x := by
  unfold mag
  rcases le_total 0 x with h | h
  · exact h.trans (le_max_left _ _)
  · exact (EReal.neg_nonneg.mpr h).trans (le_max_right _ _)

theorem mag_of_nonneg {x : EReal} (h : 0 ≤ x) : mag x = x :=
  max_eq_left ((EReal.neg_le.mp (by simpa using h)).trans h)

/-- The scaled row with everything but its first `i` entries, in the row's order, put to zero. -/
def keep (a : Fin n → EReal) (i : ℕ) (j : Fin n) : EReal := if rank a j < i then norm a j else 0

theorem keep_nonneg [NeZero n] {a : Fin n → EReal} (ha : ∀ j, 0 ≤ a j) (i : ℕ) (j : Fin n) : 0 ≤ keep a i j := by
  unfold keep
  split
  · exact norm_nonneg ha j
  · exact le_rfl

end Cert.Rows

end
-- ==== Proof.Pick.lean ====
/-
  Finding a row's first greatest entry through its position's index word: the least index among the entries that reach
  the row's greatest, as a fold of signed minima, equals a position's index exactly at the first greatest entry.
-/
module

public import proofs.«01_k».proof.Proof.Norm
public import Idealize.ShloMosaic.Lib.WordArith
public import Idealize.ShloMosaic.Lib.Pointwise

@[expose] public section

noncomputable section

namespace Cert.Rows

open Idealize.ShloMosaic

/-- A fold of signed minima, read as an integer, is the fold of the integers' minima. -/
theorem toInt_fold_minsi {ι : Type} (s : Finset ι) (b : BitVec 32) (f : ι → BitVec 32) :
    (s.fold IntOp.minsi b f).toInt = s.fold min b.toInt fun i => (f i).toInt := by
  refine (Finset.fold_hom (m := BitVec.toInt) fun x y => ?_).symm
  unfold IntOp.minsi
  simp only [BitVec.slt_iff_toInt_lt]
  split
  · exact (min_eq_left (by omega)).symm
  · exact (min_eq_right (by omega)).symm

theorem toInt_index (j : Fin 4096) : (BitVec.ofNat 32 (j : ℕ)).toInt = (j : ℤ) := by
  have := j.isLt
  rw [BitVec.toInt_eq_toNat_cond, BitVec.toNat_ofNat, Nat.mod_eq_of_lt (by omega), if_pos (by omega)]

/-- The index word of `j` is the least index of a greatest entry exactly where `j` holds the first greatest entry. -/
theorem index_eq_iff (x : Fin 4096 → EReal) (j : Fin 4096) :
    BitVec.ofNat 32 (j : ℕ) = Finset.univ.fold IntOp.minsi 2147483647#32
      (fun k : Fin 4096 => if hi x ≤ x k then BitVec.ofNat 32 (k : ℕ) else 4096#32) ↔ IsFirst x j := by
  have hj := j.isLt
  have hval : ∀ k : Fin 4096, (if hi x ≤ x k then BitVec.ofNat 32 (k : ℕ) else 4096#32).toInt
      = if hi x ≤ x k then (k : ℤ) else 4096 := fun k => by
    split
    · exact toInt_index k
    · rfl
  have hmax : ∀ k : Fin 4096, (∀ i, x i ≤ x k) → hi x ≤ x k := fun k hk =>
    (Finset.fold_max_le _).mpr ⟨by rw [ofBits_neg_inf]; exact bot_le, fun i _ => hk i⟩
  rw [← BitVec.toInt_inj, toInt_fold_minsi, toInt_index]
  simp only [hval]
  rw [show (2147483647#32 : BitVec 32).toInt = 2147483647 by decide]
  constructor
  · intro h
    obtain ⟨hall⟩ : Nonempty (∀ k : Fin 4096, hi x ≤ x k → j ≤ k) := ⟨fun k hk => by
      have := ((Finset.le_fold_min _).mp h.le).2 k (Finset.mem_univ k)
      rw [if_pos hk] at this
      exact Fin.le_def.mpr (by omega)⟩
    have hreach : hi x ≤ x j := by
      rcases (Finset.fold_min_le _).mp h.ge with hb | ⟨k, _, hk⟩
      · omega
      · split at hk
        · rename_i hkx
          have := hall k hkx
          rw [show j = k from Fin.ext (by have := Fin.le_def.mp this; omega)]
          exact hkx
        · omega
    exact fun k => ⟨(le_hi x k).trans hreach, fun e => hall k (e ▸ hreach)⟩
  · intro h
    have hreach := hmax j fun k => (h k).1
    refine le_antisymm ((Finset.le_fold_min _).mpr ⟨by omega, fun k _ => ?_⟩)
      ((Finset.fold_min_le _).mpr (.inr ⟨j, Finset.mem_univ j, by rw [if_pos hreach]⟩))
    split
    · rename_i hk
      have : j ≤ k := (h k).2 (le_antisymm (h k).1 ((le_hi x j).trans hk))
      exact_mod_cast this
    · omega

end Cert.Rows

end
-- ==== Proof.Round.lean ====
/-
  One round of picking in a block of 256 rows: each row's first greatest entry is picked and replaced by a negative
  number. Eight rounds pick each row's entries of rank below eight.
-/
module

public import proofs.«01_k».proof.Proof.Pick
public import proofs.«01_k».proof.Proof.Gen.KernelIdeal.Skeleton

@[expose] public section

set_option maxRecDepth 16384

noncomputable section

namespace Cert.Block

open Idealize.ShloMosaic Cert.KernelIdeal Cert.KernelIdeal.Gen Cert.Rows

/-- A block of 256 rows. -/
abbrev Blk : Type := FVec Ideal S256x4096 .f32

/-- Each position's index in its row, as a word. -/
def cols : IVec S256x4096 32 := iota .tc S256x4096 32 [1] iota_S256x4096_d1_w32

/-- One round's pick: the positions whose index is the least of their row's greatest entries'. -/
def hit (cur : Blk) : IVec S256x4096 1 :=
  cmpi .eq cols (broadcastTo S256x4096 (shapeCast S256x1 (multiReductionI .minsi [1] S256
    (select (cmpf .oge cur (broadcastTo S256x4096 (shapeCast S256x1 (multiReduction .maximumf [1] S256 cur
      0xFF800000#32 reduces_S256x4096_S256 (.inl rfl) rfl) shapeCasts_S256_S256x1) broadcasts_S256x1_S256x4096))
      cols (broadcast S256x4096 4096#32)) 2147483647#32 reduces_S256x4096_S256 rfl)
    shapeCasts_S256_S256x1) broadcasts_S256x1_S256x4096)

/-- The entries after a round: the picked ones are replaced. -/
def drop (cur : Blk) : Blk := select (hit cur) (broadcast S256x4096 (Scalar.ofBits .f32 0xBF800000#32)) cur

/-- The entries after `i` rounds. -/
def rounds (cur : Blk) : ℕ → Blk
  | 0 => cur
  | i + 1 => drop (rounds cur i)

/-- A row of a block. -/
def row (v : Blk) (r : Fin 256) (k : Fin 4096) : EReal := v (ix2 r k)

/-- Whether two words are equal, as a truth word. -/
theorem cmpi_eq (x y : BitVec 32) : IntOp.cmpi .eq x y = if x = y then 1#1 else 0#1 := by
  unfold IntOp.cmpi
  by_cases h : x = y
  · rw [if_pos h, beq_iff_eq.mpr h]; rfl
  · rw [if_neg h, beq_eq_false_iff_ne.mpr h]; rfl

/-- A round compares a position's index with the least index of its row's greatest entries. -/
theorem hit_words (cur : Blk) (r : Fin 256) (j : Fin 4096) :
    hit cur (ix2 r j) = IntOp.cmpi .eq (BitVec.ofNat 32 (j : ℕ)) (Finset.univ.fold IntOp.minsi 2147483647#32
      (fun k : Fin 4096 => if hi (row cur r) ≤ row cur r k then BitVec.ofNat 32 (k : ℕ) else 4096#32)) := by
  unfold row hi
  pointwise [hit, cols]

open Classical in
/-- A round picks each row's first greatest entry. -/
theorem hit_at (cur : Blk) (r : Fin 256) (j : Fin 4096) :
    hit cur (ix2 r j) = if IsFirst (row cur r) j then 1#1 else 0#1 := by
  rw [hit_words, cmpi_eq]
  exact if_congr (index_eq_iff (row cur r) j) rfl rfl

/-- A selection between two vectors at an index. -/
theorem select_if {s : Shape} {α : Type} (c : IVec s 1) (x y : s.Idx → α) (i : s.Idx) :
    select c x y i = if c i = 1#1 then x i else y i := rfl

open Classical in
/-- A round replaces each row's first greatest entry. -/
theorem drop_at (cur : Blk) (r : Fin 256) (j : Fin 4096) :
    drop cur (ix2 r j) = if IsFirst (row cur r) j then Ideal.ofBits .f32 0xBF800000#32 else row cur r j := by
  unfold drop
  rw [select_if, hit_at]
  by_cases hf : IsFirst (row cur r) j
  · rw [if_pos hf, if_pos hf, if_pos rfl]; rfl
  · rw [if_neg hf, if_neg hf, if_neg (by decide)]; rfl

/-- After `i` rounds the first `i` entries, in the row's order, are replaced. -/
theorem rounds_row {cur : Blk} {r : Fin 256} (h0 : ∀ j, 0 ≤ row cur r j) :
    ∀ i, i ≤ 8 → row (rounds cur i) r = cut (Ideal.ofBits .f32 0xBF800000#32) (row cur r) i
  | 0, _ => (cut_zero _ _).symm
  | i + 1, hi => by
    classical
    funext j
    have ih := rounds_row h0 i (by omega)
    refine (drop_at (rounds cur i) r j).trans ?_
    rw [ih]
    exact cut_succ (fun k => ofBits_neg_one_lt.trans_le (h0 k)) (by omega) j

/-- Round `i` picks each row's entry of rank `i`. -/
theorem hit_rounds {cur : Blk} {r : Fin 256} (h0 : ∀ j, 0 ≤ row cur r j) (i : ℕ) (hi : i < 8) (j : Fin 4096) :
    hit (rounds cur i) (ix2 r j) = if rank (row cur r) j = i then 1#1 else 0#1 := by
  classical
  rw [hit_at, rounds_row h0 i hi.le]
  exact if_congr (isFirst_cut (fun k => ofBits_neg_one_lt.trans_le (h0 k)) (by omega) j) rfl rfl

/-- What the first `i + 1` rounds pick together. -/
def picks (cur : Blk) : ℕ → IVec S256x4096 1
  | 0 => hit cur
  | i + 1 => ori (picks cur i) (hit (rounds cur (i + 1)))

/-- Together the first `i + 1` rounds pick each row's entries of rank at most `i`. -/
theorem picks_at {cur : Blk} {r : Fin 256} (h0 : ∀ j, 0 ≤ row cur r j) (j : Fin 4096) :
    ∀ i, i < 8 → picks cur i (ix2 r j) = if rank (row cur r) j ≤ i then 1#1 else 0#1
  | 0, h => by
    show hit (rounds cur 0) (ix2 r j) = _
    rw [hit_rounds h0 0 h]
    exact if_congr (by omega) rfl rfl
  | i + 1, h => by
    show IntOp.ori (picks cur i (ix2 r j)) (hit (rounds cur (i + 1)) (ix2 r j)) = _
    rw [hit_rounds h0 (i + 1) h, picks_at h0 j i (by omega)]
    by_cases h1 : rank (row cur r) j ≤ i
    · rw [if_pos h1, if_neg (by omega), if_pos (by omega)]; rfl
    · rw [if_neg h1]
      by_cases h2 : rank (row cur r) j = i + 1
      · rw [if_pos h2, if_pos (by omega)]; rfl
      · rw [if_neg h2, if_neg (by omega)]; rfl

end Cert.Block

end
-- ==== Proof.Block.lean ====
/-
  What one point of the grid computes from its block of 256 rows: the scaled rows, the scaled rows with all but the
  first eight entries put to zero, their product with the second matrix, and the two sums of squares.
-/
module

public import proofs.«01_k».proof.Proof.Round

@[expose] public section

set_option maxRecDepth 16384

noncomputable section

namespace Cert.Block

open Idealize.ShloMosaic Cert.KernelIdeal Cert.KernelIdeal.Gen Cert.Rows

/-! ## The block's results -/

/-- The magnitudes of a row of the block. -/
def mags (v : Blk) (r : Fin 256) (k : Fin 4096) : EReal := mag (v (ix2 r k))

theorem mags_nonneg (v : Blk) (r : Fin 256) (k : Fin 4096) : 0 ≤ mags v r k := mag_nonneg _

/-- The block of scaled rows. -/
def scaled (v : Blk) : Blk := k0_pay9 (F := Ideal) v

/-- The block of scaled rows with the unpicked entries put to zero. -/
def kept (v : Blk) : Blk :=
  k0_pay24 (F := Ideal) (k0_pay9 (F := Ideal) v) cols (k0_pay21 (F := Ideal) cols (k0_pay13 (F := Ideal) v) (k0_pay14 (F := Ideal) v) (k0_pay15 (F := Ideal) v))
    (k0_pay22 (F := Ideal) cols (k0_pay14 (F := Ideal) v) (k0_pay15 (F := Ideal) v)) (k0_pay23 (F := Ideal) cols (k0_pay14 (F := Ideal) v) (k0_pay15 (F := Ideal) v))

theorem kept_eq (v : Blk) :
    kept v = select (picks (k0_pay5 (F := Ideal) v) 7) (scaled v) (broadcast S256x4096 (Scalar.ofBits .f32 0x00000000#32)) := rfl

/-- A scaled row of the block. -/
theorem scaled_at (v : Blk) (r : Fin 256) (j : Fin 4096) : scaled v (ix2 r j) = norm (mags v r) j := by
  rw [← mul_inv_eq_norm (mags_nonneg v r) j]
  unfold mags lo spread hi lo eps
  pointwise [scaled, k0_pay9, k0_pay8, k0_pay7, k0_pay6, k0_pay5]
  rfl

/-- A scaled row of the block, all but its first eight entries put to zero. -/
theorem kept_at (v : Blk) (r : Fin 256) (j : Fin 4096) : kept v (ix2 r j) = keep (mags v r) 8 j := by
  have hp := picks_at (cur := k0_pay5 (F := Ideal) v) (r := r) (mags_nonneg v r) j 7 (by omega)
  rw [kept_eq, select_if, hp, scaled_at]
  unfold keep
  by_cases h : rank (mags v r) j < 8
  · rw [if_pos h, if_pos (show rank (row (k0_pay5 (F := Ideal) v) r) j ≤ 7 from Nat.le_of_lt_succ h), if_pos rfl]
  · rw [if_neg h, if_neg (show ¬ rank (row (k0_pay5 (F := Ideal) v) r) j ≤ 7 from fun h' => h (Nat.lt_succ_of_le h')), if_neg (by decide)]
    exact Ideal.ofBits_zero_f32

end Cert.Block

end
-- ==== Proof.Results.lean ====
/-
  The six results in closed form, as functions of the two argument matrices that are read: what both programs are
  shown to end with.
-/
module

public import proofs.«01_k».proof.Proof.Norm
public import Idealize.ShloMosaic.Lib.Pointwise

@[expose] public section

noncomputable section

namespace Cert.Results

open Idealize.ShloMosaic Cert.Rows

/-- A row of magnitudes of the first matrix. -/
def mags (X : (⟨2, ![4096, 4096]⟩ : Shape).Idx → EReal) (r k : Fin 4096) : EReal := mag (X (ix2 r k))

theorem mags_nonneg (X : (⟨2, ![4096, 4096]⟩ : Shape).Idx → EReal) (r k : Fin 4096) : 0 ≤ mags X r k := mag_nonneg _

/-- The magnitudes with each row scaled to its range. -/
def scaled (X : (⟨2, ![4096, 4096]⟩ : Shape).Idx → EReal) (r k : Fin 4096) : EReal := norm (mags X r) k

/-- The scaled magnitudes, each row's all but its first eight put to zero. -/
def sparse (X : (⟨2, ![4096, 4096]⟩ : Shape).Idx → EReal) (r k : Fin 4096) : EReal := keep (mags X r) 8 k

/-- The sparse matrix times the second matrix. -/
def prod (X : (⟨2, ![4096, 4096]⟩ : Shape).Idx → EReal) (Z : (⟨2, ![4096, 512]⟩ : Shape).Idx → EReal) (r : Fin 4096) (c : Fin 512) : EReal :=
  ∑ k : Fin 4096, sparse X r k * Z (ix2 k c)

/-- The squared difference of the product from the second matrix, at an entry. -/
def miss (X : (⟨2, ![4096, 4096]⟩ : Shape).Idx → EReal) (Z : (⟨2, ![4096, 512]⟩ : Shape).Idx → EReal) (r : Fin 4096) (c : Fin 512) : EReal :=
  (prod X Z r c - Z (ix2 r c)) * (prod X Z r c - Z (ix2 r c))

/-- The difference of the two scalings of a row at an entry. -/
def gap (a : Fin 4096 → EReal) (k : Fin 4096) : EReal := norm a k - Ideal.div (a k - lo a) (top a)

/-- The mean of the squared differences of the product from the second matrix. -/
def recLoss (X : (⟨2, ![4096, 4096]⟩ : Shape).Idx → EReal) (Z : (⟨2, ![4096, 512]⟩ : Shape).Idx → EReal) : EReal :=
  Ideal.div (∑ r : Fin 4096, ∑ c : Fin 512, miss X Z r c) (Ideal.ofBits .f32 0x4A000000#32)

/-- The mean of the squared differences of the two scalings. -/
def smoothLoss (X : (⟨2, ![4096, 4096]⟩ : Shape).Idx → EReal) : EReal :=
  Ideal.div (∑ r : Fin 4096, ∑ k : Fin 4096, gap (mags X r) k * gap (mags X r) k) (Ideal.ofBits .f32 0x4B800000#32)

end Cert.Results

end
-- ==== Proof.BlockSums.lean ====
/-
  What one point of the grid computes from its block beyond the scaled rows: the kept rows' product with the second
  matrix, the sum of that product's squared differences from the point's own rows of the second matrix, and the sum of
  the squared differences of the two scalings.
-/
module

public import proofs.«01_k».proof.Proof.Block
public import proofs.«01_k».proof.Proof.Results

@[expose] public section

set_option maxRecDepth 16384

noncomputable section

namespace Cert.Block

open Idealize.ShloMosaic Cert.KernelIdeal Cert.KernelIdeal.Gen Cert.Rows

/-- The kept rows of a block times the second matrix. -/
def prod (v : Blk) (zt : FVec Ideal S4096x512 .f32) : FVec Ideal S256x512 .f32 :=
  k0_pay25 (F := Ideal) (k0_pay9 (F := Ideal) v) cols
    (k0_pay21 (F := Ideal) cols (k0_pay13 (F := Ideal) v) (k0_pay14 (F := Ideal) v) (k0_pay15 (F := Ideal) v))
    (k0_pay22 (F := Ideal) cols (k0_pay14 (F := Ideal) v) (k0_pay15 (F := Ideal) v))
    (k0_pay23 (F := Ideal) cols (k0_pay14 (F := Ideal) v) (k0_pay15 (F := Ideal) v)) zt

/-- The squared differences of the product from a block of the second matrix. -/
def misses (v : Blk) (zt : FVec Ideal S4096x512 .f32) (zb : FVec Ideal S256x512 .f32) : FVec Ideal S1x256x512 .f32 :=
  k0_pay26 (F := Ideal) (k0_pay9 (F := Ideal) v) cols
    (k0_pay21 (F := Ideal) cols (k0_pay13 (F := Ideal) v) (k0_pay14 (F := Ideal) v) (k0_pay15 (F := Ideal) v))
    (k0_pay22 (F := Ideal) cols (k0_pay14 (F := Ideal) v) (k0_pay15 (F := Ideal) v))
    (k0_pay23 (F := Ideal) cols (k0_pay14 (F := Ideal) v) (k0_pay15 (F := Ideal) v)) zt zb

/-- An entry of the product is a row of kept entries against a column. -/
theorem prod_at (v : Blk) (zt : FVec Ideal S4096x512 .f32) (r : Fin 256) (c : Fin 512) :
    prod v zt (ix2 r c) = ∑ k : Fin 4096, keep (mags v r) 8 k * zt (ix2 k c) := by
  have hk := fun k => kept_at v r k
  unfold kept at hk
  unfold prod
  generalize k0_pay9 (F := Ideal) v = v9 at hk ⊢
  generalize k0_pay21 (F := Ideal) cols (k0_pay13 (F := Ideal) v) (k0_pay14 (F := Ideal) v) (k0_pay15 (F := Ideal) v) = v21 at hk ⊢
  generalize k0_pay22 (F := Ideal) cols (k0_pay14 (F := Ideal) v) (k0_pay15 (F := Ideal) v) = v22 at hk ⊢
  generalize k0_pay23 (F := Ideal) cols (k0_pay14 (F := Ideal) v) (k0_pay15 (F := Ideal) v) = v23 at hk ⊢
  generalize cols = v16 at hk ⊢
  simp only [← hk]
  pointwise [k0_pay25]

/-- The sum of a block of one row of matrices is the sum over its rows and columns. -/
theorem total_at (x : FVec Ideal S1x256x512 .f32) (i : S1x1.Idx) :
    k0_pay1 (F := Ideal) x i = (∑ r : Fin 256, ∑ c : Fin 512, x (ix3 0 r c) : EReal) := by
  pointwise [k0_pay1]

/-- A squared difference of the product from a block of the second matrix. -/
theorem misses_at (v : Blk) (zt : FVec Ideal S4096x512 .f32) (zb : FVec Ideal S256x512 .f32) (r : Fin 256) (c : Fin 512) :
    misses v zt zb (ix3 0 r c) = (prod v zt (ix2 r c) - zb (ix2 r c)) * (prod v zt (ix2 r c) - zb (ix2 r c)) := by
  unfold misses prod
  generalize k0_pay9 (F := Ideal) v = v9
  generalize k0_pay21 (F := Ideal) cols (k0_pay13 (F := Ideal) v) (k0_pay14 (F := Ideal) v) (k0_pay15 (F := Ideal) v) = v21
  generalize k0_pay22 (F := Ideal) cols (k0_pay14 (F := Ideal) v) (k0_pay15 (F := Ideal) v) = v22
  generalize k0_pay23 (F := Ideal) cols (k0_pay14 (F := Ideal) v) (k0_pay15 (F := Ideal) v) = v23
  generalize cols = v16
  pointwise [k0_pay26]

/-- What a block adds to the sum of the squared differences from the second matrix. -/
def recTerm (v : Blk) (zt : FVec Ideal S4096x512 .f32) (zb : FVec Ideal S256x512 .f32) : EReal :=
  ∑ r : Fin 256, ∑ c : Fin 512, (prod v zt (ix2 r c) - zb (ix2 r c)) * (prod v zt (ix2 r c) - zb (ix2 r c))

theorem recTerm_first (v : Blk) (zt : FVec Ideal S4096x512 .f32) (zb : FVec Ideal S256x512 .f32) (i : S1x1.Idx) :
    k0_pay1 (F := Ideal) (misses v zt zb) i = recTerm v zt zb := by
  rw [total_at]
  exact Finset.sum_congr rfl fun r _ => Finset.sum_congr rfl fun c _ => misses_at v zt zb r c

theorem recTerm_next (v : Blk) (zt : FVec Ideal S4096x512 .f32) (zb : FVec Ideal S256x512 .f32) (y : FVec Ideal S1x1 .f32) (i : S1x1.Idx) :
    k0_pay3 (F := Ideal) (misses v zt zb) y i = (y i + recTerm v zt zb : EReal) := by
  rw [← recTerm_first v zt zb i]
  pointwise [k0_pay3]

/-- What a block adds to the sum of the squared differences of the two scalings. -/
def smoothTerm (v : Blk) : EReal := ∑ r : Fin 256, ∑ k : Fin 4096, Results.gap (mags v r) k * Results.gap (mags v r) k

theorem smoothTerm_first (v : Blk) (i : S1x1.Idx) :
    k0_pay2 (F := Ideal) (k0_pay5 (F := Ideal) v) (k0_pay6 (F := Ideal) v) (k0_pay7 (F := Ideal) v) (k0_pay8 (F := Ideal) v) i
      = smoothTerm v := by
  have hg : ∀ (r : Fin 256) (k : Fin 4096), Results.gap (mags v r) k
      = (k0_pay5 (F := Ideal) v (ix2 r k) - k0_pay6 (F := Ideal) v (ix2 r 0))
        * (k0_pay8 (F := Ideal) v (ix2 r 0) - Ideal.div 1 (k0_pay7 (F := Ideal) v (ix2 r 0) + eps)) := fun r k => by
    unfold Results.gap
    rw [← mul_sub_inv (mags_nonneg v r) k]
    unfold mags lo spread top hi lo eps
    pointwise [k0_pay8, k0_pay7, k0_pay6, k0_pay5]
    rfl
  unfold smoothTerm
  simp only [hg]
  unfold eps
  pointwise [k0_pay2]

theorem smoothTerm_next (v : Blk) (y : FVec Ideal S1x1 .f32) (i : S1x1.Idx) :
    k0_pay4 (F := Ideal) (k0_pay5 (F := Ideal) v) (k0_pay6 (F := Ideal) v) (k0_pay7 (F := Ideal) v) (k0_pay8 (F := Ideal) v) y i
      = (y i + smoothTerm v : EReal) := by
  rw [← smoothTerm_first v i]
  pointwise [k0_pay4]

end Cert.Block

end
-- ==== Proof.Arrays.lean ====
/-
  Where a point's blocks lie in the arrays, and the three matrices that the kernel's grid fills: a block of 256 rows per
  point.
-/
module

public import proofs.«01_k».proof.Proof.BlockSums
public import proofs.«01_k».proof.Proof.Gen.KernelIdeal.Frame
public import Idealize.ShloMosaic.Lib.Claim
public import Idealize.ShloMosaic.Lib.Pipeline.ValueKit

@[expose] public section

set_option maxRecDepth 16384

noncomputable section

namespace Cert.Arrays

open Idealize.ShloMosaic Idealize.SL.Sem Cert.KernelIdeal Cert.KernelIdeal.Gen

variable (m : (ℓ : Loc nD τ sig) → Buf (Elt Ideal) ℓ) (c : Dev nD)

/-- The first matrix read: the third argument. -/
def argX : S4096x4096.Idx → EReal := m ((c.tc : Thread nD τ).loc main_arg2)

/-- The second matrix read: the first argument. -/
def argZ : S4096x512.Idx → EReal := m ((c.tc : Thread nD τ).loc main_arg0)

/-- Row `r` of point `t`'s block, as a row of the matrix. -/
def place (t : Fin cfg0.N) (r : Fin 256) : Fin 4096 :=
  ⟨t.val * 256 + r.val, by have h : t.val < 16 := Nat.lt_of_lt_of_eq t.isLt N_0; have := r.isLt; omega⟩

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel

/-- A point's block of the first matrix is its rows of it. -/
theorem blockX (t : Fin cfg0.N) (r : Fin 256) (k : Fin 4096) :
    iblk m c 0 t (ix2 r k) = argX m c (ix2 (place t r) k) := by
  unfold argX place
  blk_ext [iblk, V, idx0 t]

/-- Every point's block of the second matrix is the whole matrix. -/
theorem blockZ (t : Fin cfg0.N) (k : Fin 4096) (j : Fin 512) :
    iblk m c 1 t (ix2 k j) = argZ m c (ix2 k j) := by
  unfold argZ
  blk_ext [iblk, V, idx1 t]

/-- The magnitudes of a block's row are those of the matrix's row. -/
theorem mags_block (t : Fin cfg0.N) (r : Fin 256) :
    Block.mags (iblk m c 0 t) r = Results.mags (argX m c) (place t r) := by
  funext k
  unfold Block.mags Results.mags
  rw [blockX]

/-- Where a row of a point's block of the scaled magnitudes lies. -/
theorem emb2 (t : Fin cfg0.N) (r : Fin 256) (k : Fin 4096) :
    ((View.whole main_v0_1).slice (win0_2.rect t)).emb (ix2 r k) = ix2 (place t r) k := by
  unfold place
  blk_ext [idx2 t]

/-- Where a row of a point's block of the sparse matrix lies. -/
theorem emb3 (t : Fin cfg0.N) (r : Fin 256) (k : Fin 4096) :
    ((View.whole main_v0_2).slice (win0_3.rect t)).emb (ix2 r k) = ix2 (place t r) k := by
  unfold place
  blk_ext [idx3 t]

/-- Where a row of a point's block of the product lies. -/
theorem emb4 (t : Fin cfg0.N) (r : Fin 256) (j : Fin 512) :
    ((View.whole main_v0_0).slice (win0_4.rect t)).emb (ix2 r j) = ix2 (place t r) j := by
  unfold place
  blk_ext [idx4 t]

/-- The array of the scaled magnitudes at the end. -/
theorem scaled_array : (dats m 0 c).arrAt 2 (cfgs 0).N
    = (fun i => Results.scaled (argX m c) (i 0) (i 1) : S4096x4096.Idx → EReal) := by
  refine (dats m 0 c).arrAt_eq_of_covers 2 _ (by decide +kernel) fun t hf y => ?_
  blk_simp
  rw [after0_2]
  have hN : t.val < 16 := Nat.lt_of_lt_of_eq t.isLt N_0
  have hval : Block.scaled (iblk m c 0 t) y
      = Results.scaled (argX m c) ((((View.whole main_v0_1).slice (win0_2.rect t)).emb y) 0)
          ((((View.whole main_v0_1).slice (win0_2.rect t)).emb y) 1) := by
    idx_vars y
    rw [emb2, Block.scaled_at, mags_block]
    rfl
  by_cases h0 : t.val % 16 = 0
  · rw [outsAt0_A m c t h0 (by omega)]
    frame_out
    exact hval
  · rw [outsAt0_B m c t h0 (by omega)]
    frame_out
    exact hval

/-- The array of the sparse matrix at the end. -/
theorem sparse_array : (dats m 0 c).arrAt 3 (cfgs 0).N
    = (fun i => Results.sparse (argX m c) (i 0) (i 1) : S4096x4096.Idx → EReal) := by
  refine (dats m 0 c).arrAt_eq_of_covers 3 _ (by decide +kernel) fun t hf y => ?_
  blk_simp
  rw [after0_3]
  have hN : t.val < 16 := Nat.lt_of_lt_of_eq t.isLt N_0
  have hval : Block.kept (iblk m c 0 t) y
      = Results.sparse (argX m c) ((((View.whole main_v0_2).slice (win0_3.rect t)).emb y) 0)
          ((((View.whole main_v0_2).slice (win0_3.rect t)).emb y) 1) := by
    idx_vars y
    rw [emb3, Block.kept_at, mags_block]
    rfl
  by_cases h0 : t.val % 16 = 0
  · rw [outsAt0_A m c t h0 (by omega)]
    frame_out
    exact hval
  · rw [outsAt0_B m c t h0 (by omega)]
    frame_out
    exact hval

/-- A block's product is the matrix product's rows. -/
theorem prod_block (t : Fin cfg0.N) (r : Fin 256) (j : Fin 512) :
    Block.prod (iblk m c 0 t) (iblk m c 1 t) (ix2 r j) = Results.prod (argX m c) (argZ m c) (place t r) j := by
  rw [Block.prod_at, mags_block]
  unfold Results.prod
  exact Finset.sum_congr rfl fun k _ => by rw [blockZ]; rfl

/-- The array of the product at the end. -/
theorem prod_array : (dats m 0 c).arrAt 4 (cfgs 0).N
    = (fun i => Results.prod (argX m c) (argZ m c) (i 0) (i 1) : S4096x512.Idx → EReal) := by
  refine (dats m 0 c).arrAt_eq_of_covers 4 _ (by decide +kernel) fun t hf y => ?_
  blk_simp
  rw [after0_4]
  have hN : t.val < 16 := Nat.lt_of_lt_of_eq t.isLt N_0
  have hval : Block.prod (iblk m c 0 t) (iblk m c 1 t) y
      = Results.prod (argX m c) (argZ m c) ((((View.whole main_v0_0).slice (win0_4.rect t)).emb y) 0)
          ((((View.whole main_v0_0).slice (win0_4.rect t)).emb y) 1) := by
    idx_vars y
    rw [emb4, prod_block]
    rfl
  by_cases h0 : t.val % 16 = 0
  · rw [outsAt0_A m c t h0 (by omega)]
    frame_out
    exact hval
  · rw [outsAt0_B m c t h0 (by omega)]
    frame_out
    exact hval

end Cert.Arrays

end
-- ==== Proof.Sums.lean ====
/-
  The two sums that the kernel's grid accumulates over its points, and their division after the grid.
-/
module

public import proofs.«01_k».proof.Proof.Arrays

@[expose] public section

set_option maxRecDepth 16384

noncomputable section

namespace Cert.Arrays

open Idealize.ShloMosaic Idealize.SL.Sem Cert.KernelIdeal Cert.KernelIdeal.Gen

variable (m : (ℓ : Loc nD τ sig) → Buf (Elt Ideal) ℓ) (c : Dev nD)

/-- The rows of the second matrix that belong to a point. -/
def rowsZ (t : Fin cfg0.N) : FVec Ideal S256x512 .f32 := fun i => argZ m c (ix2 (place t (i 0)) (i 1))

theorem off1 : ∀ t : Fin cfg0.N, k0_off1 (grid0.coords t) = ![t.val * 256, 0] := by decide +kernel

/-- What a point loads of the second matrix for the comparison is its own rows of it. -/
theorem ld_rowsZ (t : Fin cfg0.N) (off : Fin 2 → ℕ) (inb : ∀ a, off a + S256x512.size a ≤ S4096x512.size a)
    (ho : off = ![t.val * 256, 0]) :
    View.ld (iblk m c 1 t) (Rect.unit (s := S4096x512) off S256x512.size inb) = rowsZ m c t := by
  subst ho
  funext i
  idx_vars i
  unfold rowsZ
  pointwise
  exact blockZ m c t _ i1

/-- The array of the differences of the two scalings ends as the sum of all points' terms. -/
theorem smooth_sum : (dats m 0 c).arrAt 6 (cfgs 0).N
    = (fun _ => ∑ t : Fin cfg0.N, Block.smoothTerm (iblk m c 0 t) : S1x1.Idx → EReal) := by
  refine (dats m 0 c).arrAt_eq_of_after_last 6 t0_15 (by decide +kernel) _ fun j => ?_
  blk_simp
  rw [after0_6]
  refine (Pipeline.eq_sum_fin_of_reset_step_apply_last (fun n h => (outsAt0 m c n h).2.2.2.2) 16 (fun _ => (0 : EReal))
    (fun t _ => Block.smoothTerm (iblk m c 0 t)) (fun t h0 i => ?_) (fun t h0 i => ?_) N_0.le t0_15 rfl j).trans (zero_add _)
  · have hN : t.val < 16 := Nat.lt_of_lt_of_eq t.isLt N_0
    rw [outsAt0_A m c t h0 (by omega)]
    frame_out
    rw [zero_add]
    exact Block.smoothTerm_first _ i
  · rw [outsAt0_B m c t h0 (by omega)]
    frame_out
    exact Block.smoothTerm_next _ _ i

/-- The array of the differences from the second matrix ends as the sum of all points' terms. -/
theorem rec_sum : (dats m 0 c).arrAt 5 (cfgs 0).N
    = (fun _ => ∑ t : Fin cfg0.N, Block.recTerm (iblk m c 0 t) (iblk m c 1 t) (rowsZ m c t) : S1x1.Idx → EReal) := by
  refine (dats m 0 c).arrAt_eq_of_after_last 5 t0_15 (by decide +kernel) _ fun j => ?_
  blk_simp
  rw [after0_5]
  refine (Pipeline.eq_sum_fin_of_reset_step_apply_last (fun n h => (outsAt0 m c n h).2.2.2.1) 16 (fun _ => (0 : EReal))
    (fun t _ => Block.recTerm (iblk m c 0 t) (iblk m c 1 t) (rowsZ m c t)) (fun t h0 i => ?_) (fun t h0 i => ?_)
    N_0.le t0_15 rfl j).trans (zero_add _)
  · have hN : t.val < 16 := Nat.lt_of_lt_of_eq t.isLt N_0
    rw [outsAt0_A m c t h0 (by omega)]
    frame_out
    rw [zero_add, ← ld_rowsZ m c t (k0_off1 (grid0.coords t)) (k0_off1_inb (grid0.coords t)) (off1 t)]
    exact Block.recTerm_first _ _ _ i
  · rw [outsAt0_B m c t h0 (by omega)]
    frame_out
    rw [← ld_rowsZ m c t (k0_off1 (grid0.coords t)) (k0_off1_inb (grid0.coords t)) (off1 t)]
    exact Block.recTerm_next _ _ _ _ i

/-- All points' terms together: the sum over all rows. -/
theorem smooth_total : ∑ t : Fin cfg0.N, Block.smoothTerm (iblk m c 0 t)
    = ∑ r : Fin 4096, ∑ k : Fin 4096, Results.gap (Results.mags (argX m c) r) k * Results.gap (Results.mags (argX m c) r) k := by
  refine Fin.sum_mul_add_congr (L := 4096) (n := 256) (fun t r hl => ?_) (by rw [show cfg0.N = 16 from N_0])
  rw [mags_block]
  rfl

theorem rec_total : ∑ t : Fin cfg0.N, Block.recTerm (iblk m c 0 t) (iblk m c 1 t) (rowsZ m c t)
    = ∑ r : Fin 4096, ∑ j : Fin 512, Results.miss (argX m c) (argZ m c) r j := by
  refine Fin.sum_mul_add_congr (L := 4096) (n := 256) (fun t r hl => ?_) (by rw [show cfg0.N = 16 from N_0])
  refine Finset.sum_congr rfl fun j _ => ?_
  rw [prod_block]
  rfl

/-- The mean of the squared differences from the second matrix, after the grid. -/
theorem rec_result : Pipeline.afterTail₀ cfgs (dats m) 0 (V0 m) [hostOps1] c main_v0_4
    = (fun _ => Results.recLoss (argX m c) (argZ m c) : S_.Idx → EReal) := by
  have hw : Pipeline.withArrays (cfgs 0).spec c (V0 m c) (fun w => (dats m 0 c).arrAt w (cfgs 0).N)
      (Proc.tc.devRef main_call0_v0_3) = (dats m 0 c).arrAt 5 (cfgs 0).N :=
    Pipeline.withArrays_arr (cfgs 0).spec (by decide) c (V0 m c) _ 5
  unfold Pipeline.afterTail₀
  simp only [hostOps1, List.flatten_cons, List.flatten_nil, List.append_nil]
  after_results_simp
  rw [hw, rec_sum, rec_total]
  rfl

/-- The mean of the squared differences of the two scalings, after the grid. -/
theorem smooth_result : Pipeline.afterTail₀ cfgs (dats m) 0 (V0 m) [hostOps1] c main_v0_5
    = (fun _ => Results.smoothLoss (argX m c) : S_.Idx → EReal) := by
  have hw : Pipeline.withArrays (cfgs 0).spec c (V0 m c) (fun w => (dats m 0 c).arrAt w (cfgs 0).N)
      (Proc.tc.devRef main_call0_v0_4) = (dats m 0 c).arrAt 6 (cfgs 0).N :=
    Pipeline.withArrays_arr (cfgs 0).spec (by decide) c (V0 m c) _ 6
  unfold Pipeline.afterTail₀
  simp only [hostOps1, List.flatten_cons, List.flatten_nil, List.append_nil]
  after_results_simp
  rw [hw, smooth_sum, smooth_total]
  rfl

end Cert.Arrays

end
-- ==== Proof.Table.lean ====
/-
  The reference's selection of the eight greatest entries of each row: the stable sort's first positions, the gather and
  the scatter by pairs of index words, read at an entry of the matrix that results.
-/
module

public import proofs.«01_k».proof.Proof.Gen.ReferenceIdeal
public import Idealize.ShloMosaic.Lib.Pointwise
public import Idealize.ShloMosaic.Lib.Pointwise.IndexBridge
public import Idealize.ShloMosaic.Lib.Routing.OpsPair
public import Idealize.ShloMosaic.Lib.Routing.OpsSet
public import proofs.«01_k».proof.Proof.Rows
public import proofs.«01_k».proof.Proof.Results
public import proofs.«01_k».proof.Proof.Pick

@[expose] public section

set_option maxRecDepth 16384

noncomputable section

namespace Cert.Table

open Idealize.ShloMosaic Cert.ReferenceIdeal Cert.ReferenceIdeal.Gen Cert.Rows

/-- A square matrix of extended reals, as the reference holds it. -/
abbrev Mat : Type := FVec Ideal S4096x4096 .f32

/-- The gather by pairs of index words reads the matrix at the row and the column the two words name. -/
theorem gather_at (x : Mat) (idx : IVec S4096x8x2 32) (a : Fin 4096) (b : Fin 8) (r c : Fin 4096)
    (h0 : (idx (ix3 a b 0)).toInt = (r.val : ℤ)) (h1 : (idx (ix3 a b 1)).toInt = (c.val : ℤ)) :
    Host.gather gather_S4096x4096_S4096x8x2_S4096x8_n_01_n_n_01_2_11 x idx (ix2 a b) = x (ix2 r c) := by
  have start : ∀ (q : Fin 2) (n : Fin 4096), (idx (ix3 a b q)).toInt = (n.val : ℤ) →
      gather_S4096x4096_S4096x8x2_S4096x8_n_01_n_n_01_2_11.start (ix2 a b) idx q = n.val := by
    intro q n hn
    have hm : q ∈ gather_S4096x4096_S4096x8x2_S4096x8_n_01_n_n_01_2_11.startIndexMap := by
      clear hn; revert q; decide
    have hs : gather_S4096x4096_S4096x8x2_S4096x8_n_01_n_n_01_2_11.siIdx (ix2 a b)
        ⟨gather_S4096x4096_S4096x8x2_S4096x8_n_01_n_n_01_2_11.startIndexMap.idxOf q, List.idxOf_lt_length_iff.2 hm⟩ = ix3 a b q := by
      funext e
      match q, e with
      | ⟨0, _⟩, ⟨0, _⟩ => rfl
      | ⟨0, _⟩, ⟨1, _⟩ => rfl
      | ⟨0, _⟩, ⟨2, _⟩ => rfl
      | ⟨1, _⟩, ⟨0, _⟩ => rfl
      | ⟨1, _⟩, ⟨1, _⟩ => rfl
      | ⟨1, _⟩, ⟨2, _⟩ => rfl
    unfold GatherDims.start
    rw [dif_pos hm, hs, hn]
    have e : S4096x4096.size q - gather_S4096x4096_S4096x8x2_S4096x8_n_01_n_n_01_2_11.sliceSizes q = 4095 := by
      clear hs hm hn; revert q; decide
    rw [e]
    have := n.isLt
    omega
  unfold Host.gather
  refine congrArg x (funext fun q => Fin.ext ?_)
  show _ + GatherDims.batchCoord _ _ q + GatherDims.offCoord _ _ q = _
  rw [GatherDims.batchCoord_eq_zero _ _ _ List.not_mem_nil,
    GatherDims.offCoord_eq_zero _ _ _ fun h => ((GatherDims.mem_sKept _ _).1 h).1 (by revert q; decide)]
  match q with
  | ⟨0, _⟩ => exact start 0 r h0
  | ⟨1, _⟩ => exact start 1 c h1

/-- Position `a` of the row through `(r, k)`. -/
theorem along_row (r k a : Fin 4096) : Shape.Idx.along (s := S4096x4096) (ix2 r k) 1 a = ix2 r a := by
  funext e
  match e with
  | ⟨0, _⟩ => rfl
  | ⟨1, _⟩ => rfl

/-- The second array of a sort of two along the rows, at an entry: its own entry at the place the sort brings there. -/
theorem sort2_at {α β : Type} (cmp : α × β → α × β → BitVec 1) (x : S4096x4096.Idx → α) (y : S4096x4096.Idx → β) (r k : Fin 4096) :
    (Host.sort2 S4096x4096 1 cmp x y).2 (ix2 r k)
      = y (ix2 r (sortedFrom (fun a b => cmp (x (ix2 r a), y (ix2 r a)) (x (ix2 r b), y (ix2 r b)) == 1#1) k)) := by
  show y (Shape.Idx.along (s := S4096x4096) (ix2 r k) 1 (sortedFrom (fun a b =>
    cmp (x (Shape.Idx.along (s := S4096x4096) (ix2 r k) 1 a), y (Shape.Idx.along (s := S4096x4096) (ix2 r k) 1 a))
      (x (Shape.Idx.along (s := S4096x4096) (ix2 r k) 1 b), y (Shape.Idx.along (s := S4096x4096) (ix2 r k) 1 b)) == 1#1) k)) = _
  refine congrArg y ((along_row r k _).trans (congrArg (fun B => ix2 r (sortedFrom B k)) (funext fun a => funext fun b => ?_)))
  exact congrArg₂ (fun p q => cmp (x p, y p) (x q, y q) == 1#1) (along_row r k a) (along_row r k b)

/-- The first eight entries of a row of a sorted array. -/
theorem slice_at {α : Type} (y : S4096x4096.Idx → α) (r : Fin 4096) (i : Fin 8) :
    extractStridedSlice S4096x8 (fun _ => 0) y sliceFits_S4096x4096_S4096x8 (ix2 r i) = y (ix2 r (⟨i.val, by omega⟩ : Fin 4096)) := by
  refine congrArg y (funext fun e => Fin.ext ?_)
  match e with
  | ⟨0, _⟩ => exact Nat.zero_add _
  | ⟨1, _⟩ => exact Nat.zero_add _

theorem ofBool_beq (b : Bool) : (BitVec.ofBool b == 1#1) = b := by cases b <;> rfl

/-- The positions of the eight greatest of each row, as words: those the stable sort, greatest first, puts in front. -/
theorem topK_at (x : Mat) (r : Fin 4096) (i : Fin 8) :
    (Host.topK S4096x8 1 (FloatOps.cmpfTotal (F := Ideal) (φ := .f32) .gt) x sliceFits_S4096x4096_S4096x8).2 (ix2 r i)
      = BitVec.ofNat 32 (sortedFrom (fun k j => decide (x (ix2 r j) < x (ix2 r k))) (⟨i.val, by omega⟩ : Fin 4096)).val := by
  unfold Host.topK
  dsimp only
  rw [slice_at, sort2_at]
  exact congrArg (fun B => BitVec.ofNat 32 (sortedFrom B _).val) (funext fun k => funext fun j => ofBool_beq _)

/-- The words as a column of indices: jnp's wrap of a negative index, and a unit axis added. -/
def wrapped (w : IVec S4096x8 32) : IVec S4096x8x1 32 :=
  broadcastInDim S4096x8x1 ![0, 1] bcast_S4096x8_S4096x8x1_0_1
    (select (cmpi .slt w (broadcastInDim S4096x8 ![] bcast_S_S4096x8 (constantI S_ 32 0#32)))
      (addi w (broadcastInDim S4096x8 ![] bcast_S_S4096x8 (constantI S_ 32 4096#32))) w)

/-- The row number of each entry of a table of eight columns. -/
def rowWords : IVec S4096x8 32 :=
  broadcastInDim S4096x8 ![0, 1] bcast_S4096x1_S4096x8_0_1 (broadcastInDim S4096x1 ![0] bcast_S4096_S4096x1_0 (iotaInDim S4096 32 0))

/-- The pairs of index words: the row of the entry, then the word given for it. -/
def pairs (w : IVec S4096x8 32) : IVec S4096x8x2 32 :=
  concatenate S4096x8x2 2 [⟨S4096x8x1, wrapped rowWords⟩, ⟨S4096x8x1, wrapped w⟩] concatenates_S4096x8x1_S4096x8x1_S4096x8x2_d2

theorem wrapped_at (w : IVec S4096x8 32) (r : Fin 4096) (i : Fin 8) (z : Fin 1) (n : Fin 4096)
    (h : w (ix2 r i) = BitVec.ofNat 32 n.val) : (wrapped w (ix3 r i z)).toInt = (n.val : ℤ) := by
  unfold wrapped
  pointwise
  have hn : n.val < 2 ^ 31 := lt_trans n.isLt (by decide)
  rw [h, Routing.wrap_of_lt _ _ (by rw [BitVec.toNat_ofNat]; omega)]
  exact toInt_index n

theorem rowWords_at (r : Fin 4096) (i : Fin 8) : rowWords (ix2 r i) = BitVec.ofNat 32 r.val := by
  unfold rowWords
  pointwise

theorem pairs_row (w : IVec S4096x8 32) (r : Fin 4096) (i : Fin 8) : (pairs w (ix3 r i 0)).toInt = (r.val : ℤ) := by
  unfold pairs
  pointwise
  exact wrapped_at _ r i _ r (rowWords_at r i)

theorem pairs_col (w : IVec S4096x8 32) (r : Fin 4096) (i : Fin 8) (n : Fin 4096) (h : w (ix2 r i) = BitVec.ofNat 32 n.val) :
    (pairs w (ix3 r i 1)).toInt = (n.val : ℤ) := by
  unfold pairs
  pointwise
  exact wrapped_at _ r i _ n h

/-- The position of the `i`-th greatest entry of row `r`. -/
def place (x : Mat) (r : Fin 4096) (i : Fin 8) : Fin 4096 :=
  sortedFrom (fun k j => decide (x (ix2 r j) < x (ix2 r k))) (⟨i.val, by omega⟩ : Fin 4096)

/-- The entry at the `i`-th place has rank `i` in its row. -/
theorem rank_place (x : Mat) (r : Fin 4096) (i : Fin 8) : rank (fun k => x (ix2 r k)) (place x r i) = i.val :=
  rank_sortedFrom (fun k => x (ix2 r k)) _ (fun _ _ => rfl) _

/-- The matrix with all but the eight greatest of each row put to zero, as the reference computes it: the greatest entries
    read out by their positions and written into a matrix of zeros at the same positions. -/
def pruned (x : Mat) : Mat :=
  Host.scatter scatter_S4096x4096_S4096x8x2_S4096x8_n_01_01_2 (fun _ b => b)
    (broadcastInDim S4096x4096 ![] bcast_S_S4096x4096 (constant S_ .f32 0x00000000#32))
    (pairs (Host.topK S4096x8 1 (FloatOps.cmpfTotal (F := Ideal) (φ := .f32) .gt) x sliceFits_S4096x4096_S4096x8).2)
    (Host.gather gather_S4096x4096_S4096x8x2_S4096x8_n_01_n_n_01_2_11 x
      (pairs (Host.topK S4096x8 1 (FloatOps.cmpfTotal (F := Ideal) (φ := .f32) .gt) x sliceFits_S4096x4096_S4096x8).2))

theorem zeros_at (r j : Fin 4096) :
    (broadcastInDim S4096x4096 ![] bcast_S_S4096x4096 (constant (F := Ideal) S_ .f32 0x00000000#32)) (ix2 r j) = (0 : EReal) := by
  pointwise

/-- An entry of it: kept if fewer than eight entries of its row come before it, else zero. -/
theorem pruned_at (x : Mat) (r j : Fin 4096) :
    pruned x (ix2 r j) = if rank (fun k => x (ix2 r k)) j < 8 then x (ix2 r j) else 0 := by
  unfold pruned
  generalize hw : (Host.topK S4096x8 1 (FloatOps.cmpfTotal (F := Ideal) (φ := .f32) .gt) x sliceFits_S4096x4096_S4096x8).2 = w
  have word : ∀ a b, w (ix2 a b) = BitVec.ofNat 32 (place x a b).val := fun a b => by rw [← hw]; exact topK_at x a b
  have lands : ∀ a b, scatter_S4096x4096_S4096x8x2_S4096x8_n_01_01_2.resultIdx? (ix2 a b) (pairs w) = some (ix2 r j)
      ↔ a = r ∧ place x a b = j := fun a b => by
    refine (Routing.scatter_lands2 _ rfl rfl rfl (pairs w) a b r j).trans ?_
    rw [← ix3_eq_valueIdx, ← ix3_eq_valueIdx, pairs_row, pairs_col w a b _ (word a b)]
    simp only [Nat.cast_inj, Fin.val_inj]
  by_cases h : rank (fun k => x (ix2 r k)) j < 8
  · rw [if_pos h]
    refine Routing.scatter_set_hit _ _ _ _ _ _ (fun k hk => ?_) (ix2 r (⟨_, h⟩ : Fin 8)) ((lands _ _).2 ⟨rfl, ?_⟩)
    · idx_vars k
      obtain ⟨rfl, hj⟩ := (lands k0 k1).1 hk
      rw [gather_at x _ k0 k1 k0 (place x k0 k1) (pairs_row ..) (pairs_col _ _ _ _ (word ..)), hj]
    · exact rank_inj (rank_place x r _)
  · rw [if_neg h]
    refine (Routing.scatter_set_miss _ _ _ _ _ fun k hk => ?_).trans (zeros_at r j)
    idx_vars k
    obtain ⟨rfl, rfl⟩ := (lands k0 k1).1 hk
    rw [rank_place] at h
    exact h k1.isLt

end Cert.Table

end
-- ==== Proof.Reference.lean ====
/-
  The reference's six results, read at an entry: each is the closed form of Results.lean at the reference's own arguments.
-/
module

public import proofs.«01_k».proof.Proof.Gen.ReferenceIdeal.Run
public import proofs.«01_k».proof.Proof.Table
public import proofs.«01_k».proof.Proof.Results

@[expose] public section

set_option maxRecDepth 16384

noncomputable section

namespace Cert.Ref

open Idealize.ShloMosaic Idealize.ShloMosaic.TcCoe Cert.ReferenceIdeal Cert.ReferenceIdeal.Gen Cert.Rows Cert.Table

/-- The least magnitude of each row, as a column. -/
def least (X : Mat) : FVec Ideal S4096x1 .f32 :=
  broadcastInDim S4096x1 ![0] bcast_S4096_S4096x1_0
    (Host.reduce FloatOps.minimumf (Host.absf X) (constant S_ .f32 0x7F800000#32) reducesTo_S4096x4096_S4096_d1 h_S_)

/-- The greatest magnitude of each row, as a column. -/
def greatest (X : Mat) : FVec Ideal S4096x1 .f32 :=
  broadcastInDim S4096x1 ![0] bcast_S4096_S4096x1_0
    (Host.reduce FloatOps.maximumf (Host.absf X) (constant S_ .f32 0xFF800000#32) reducesTo_S4096x4096_S4096_d1 h_S_)

/-- The small constant, as a column. -/
def smalls : FVec Ideal S4096x1 .f32 := broadcastInDim S4096x1 ![] bcast_S_S4096x1 (constant S_ .f32 0x322BCC77#32)

/-- The magnitudes less their row's least. -/
def lifted (X : Mat) : Mat :=
  subf (Host.absf X) (broadcastInDim S4096x4096 ![0, 1] bcast_S4096x1_S4096x4096_0_1 (least X))

/-- The magnitudes scaled to their row's range. -/
def scaled (X : Mat) : Mat :=
  Host.divf (lifted X) (broadcastInDim S4096x4096 ![0, 1] bcast_S4096x1_S4096x4096_0_1 (addf (subf (greatest X) (least X)) smalls))

/-- The magnitudes scaled by their row's greatest alone. -/
def scaledTop (X : Mat) : Mat :=
  Host.divf (lifted X) (broadcastInDim S4096x4096 ![0, 1] bcast_S4096x1_S4096x4096_0_1 (addf (greatest X) smalls))

theorem least_at (X : Mat) (r : Fin 4096) (z : Fin 1) : least X (ix2 r z) = lo (Results.mags X r) := by
  unfold least
  pointwise
  rfl

theorem greatest_at (X : Mat) (r : Fin 4096) (z : Fin 1) : greatest X (ix2 r z) = hi (Results.mags X r) := by
  unfold greatest
  pointwise
  rfl

theorem smalls_at (r : Fin 4096) (z : Fin 1) : smalls (ix2 r z) = eps := by
  unfold smalls
  pointwise
  rfl

theorem lifted_at (X : Mat) (r j : Fin 4096) : lifted X (ix2 r j) = Results.mags X r j - lo (Results.mags X r) := by
  unfold lifted
  pointwise
  rw [least_at]
  rfl

/-- A matrix divided by a column, at an entry. -/
theorem quot_at (L : Mat) (D : FVec Ideal S4096x1 .f32) (r j : Fin 4096) :
    Host.divf L (broadcastInDim S4096x4096 ![0, 1] bcast_S4096x1_S4096x4096_0_1 D) (ix2 r j) = Ideal.div (L (ix2 r j)) (D (ix2 r 0)) := by
  pointwise

theorem scaled_at (X : Mat) (r j : Fin 4096) : scaled X (ix2 r j) = Results.scaled X r j := by
  refine (quot_at _ _ r j).trans ?_
  rw [lifted_at, addf_apply, subf_apply, Ideal.addf_def, Ideal.subf_def, greatest_at, least_at, smalls_at]
  unfold Results.scaled Rows.norm spread
  with_reducible rfl

theorem scaledTop_at (X : Mat) (r j : Fin 4096) :
    scaledTop X (ix2 r j) = Ideal.div (Results.mags X r j - lo (Results.mags X r)) (top (Results.mags X r)) := by
  refine (quot_at _ _ r j).trans ?_
  rw [lifted_at, addf_apply, Ideal.addf_def, greatest_at, smalls_at]
  unfold Rows.top
  with_reducible rfl

/-- The kept entries are those of the closed form: the ranks among the scaled magnitudes that matter are those among
    the magnitudes. -/
theorem sparse_at (X : Mat) (r j : Fin 4096) : pruned (scaled X) (ix2 r j) = Results.sparse X r j := by
  rw [pruned_at]
  simp only [scaled_at]
  exact keep_eq (Results.mags_nonneg X r) 8 j

/-- The product of the kept entries with the second matrix. -/
def prod (X : Mat) (Z : FVec Ideal S4096x512 .f32) : FVec Ideal S4096x512 .f32 :=
  Host.dotGeneral dot_S4096x4096_S4096x512_S4096x512_1_0_0_1_n_n none (pruned (scaled X)) Z

/-- A product of matrices, at an entry. -/
theorem dot_at (P : Mat) (Z : FVec Ideal S4096x512 .f32) (r : Fin 4096) (q : Fin 512) :
    Host.dotGeneral dot_S4096x4096_S4096x512_S4096x512_1_0_0_1_n_n none P Z (ix2 r q) = ∑ k : Fin 4096, P (ix2 r k) * Z (ix2 k q) := by
  pointwise

theorem prod_at (X : Mat) (Z : FVec Ideal S4096x512 .f32) (r : Fin 4096) (q : Fin 512) :
    prod X Z (ix2 r q) = Results.prod X Z r q := by
  refine (dot_at _ Z r q).trans ?_
  simp only [sparse_at]
  unfold Results.prod
  with_reducible rfl

/-- The mean squared difference of the product from the second matrix. -/
def recLoss (X : Mat) (Z : FVec Ideal S4096x512 .f32) : FVec Ideal S_ .f32 :=
  Host.divf (Host.reduceAdd (mulf (subf (prod X Z) Z) (subf (prod X Z) Z)) (constant S_ .f32 0x00000000#32)
    reducesTo_S4096x512_S_d0_1 h_S_) (constant S_ .f32 0x4A000000#32)

/-- The mean squared difference of the two scalings. -/
def smoothLoss (X : Mat) : FVec Ideal S_ .f32 :=
  Host.divf (Host.reduceAdd (mulf (subf (scaled X) (scaledTop X)) (subf (scaled X) (scaledTop X))) (constant S_ .f32 0x00000000#32)
    reducesTo_S4096x4096_S_d0_1 h_S_) (constant S_ .f32 0x4B800000#32)

theorem recLoss_at (X : Mat) (Z : FVec Ideal S4096x512 .f32) (i : S_.Idx) : recLoss X Z i = Results.recLoss X Z := by
  have mean : ∀ A B : FVec Ideal S4096x512 .f32, Host.divf (Host.reduceAdd (mulf (subf A B) (subf A B)) (constant S_ .f32 0x00000000#32)
      reducesTo_S4096x512_S_d0_1 h_S_) (constant S_ .f32 0x4A000000#32) i
      = Ideal.div (∑ r : Fin 4096, ∑ q : Fin 512, (A (ix2 r q) - B (ix2 r q)) * (A (ix2 r q) - B (ix2 r q)))
        (Ideal.ofBits .f32 0x4A000000#32) := fun A B => by pointwise
  refine (mean _ _).trans ?_
  simp only [prod_at]
  unfold Results.recLoss Results.miss
  with_reducible rfl

theorem smoothLoss_at (X : Mat) (i : S_.Idx) : smoothLoss X i = Results.smoothLoss X := by
  have mean : ∀ A B : Mat, Host.divf (Host.reduceAdd (mulf (subf A B) (subf A B)) (constant S_ .f32 0x00000000#32)
      reducesTo_S4096x4096_S_d0_1 h_S_) (constant S_ .f32 0x4B800000#32) i
      = Ideal.div (∑ r : Fin 4096, ∑ k : Fin 4096, (A (ix2 r k) - B (ix2 r k)) * (A (ix2 r k) - B (ix2 r k)))
        (Ideal.ofBits .f32 0x4B800000#32) := fun A B => by pointwise
  refine (mean _ _).trans ?_
  simp only [scaled_at, scaledTop_at]
  unfold Results.smoothLoss Results.gap Results.scaled
  with_reducible rfl

end Cert.Ref

end
-- ==== Proof.ReferenceRun.lean ====
/-
  The reference's run: the six results it ends with, as whole arrays, in closed form.
-/
module

public import proofs.«01_k».proof.Proof.Reference

@[expose] public section

set_option maxRecDepth 16384

noncomputable section

namespace Cert.Ref

open Idealize.ShloMosaic Idealize.ShloMosaic.TcCoe Cert.ReferenceIdeal Cert.ReferenceIdeal.Gen Cert.Rows Cert.Table
open Idealize.SL.Sem

variable (m : (ℓ : Loc nD τ sig) → Buf (Elt Ideal) ℓ) (c : Dev nD)

/-- The matrix of weights, the third argument. -/
def argX : S4096x4096.Idx → EReal := m ((c.tc : Thread nD τ).loc main_arg2)

/-- The matrix of embeddings, the first argument. -/
def argZ : S4096x512.Idx → EReal := m ((c.tc : Thread nD τ).loc main_arg0)

/-- The pruned matrix the run leaves is the selection of Table.lean applied to the scaled magnitudes. -/
theorem pruned_eq : Value.res_main_v43 m c = pruned (scaled (argX m c)) := by
  unfold Value.res_main_v43
  rfl

theorem prod_eq : Value.res_main_v44 m c = prod (argX m c) (argZ m c) := by
  unfold Value.res_main_v44
  rfl

theorem size_eq : Value.res_main_v64 m c = Host.absf (F := Ideal) (φ := .f32) (pruned (scaled (argX m c))) := by
  unfold Value.res_main_v64
  rfl

theorem recLoss_eq : Value.res_main_v48 m c = recLoss (argX m c) (argZ m c) := by
  unfold Value.res_main_v48
  rfl

theorem scaled_array (X : Mat) : scaled X = fun i => Results.scaled X (i 0) (i 1) := by
  funext i
  idx_vars i
  exact scaled_at X i0 i1

theorem sparse_array (X : Mat) : pruned (scaled X) = fun i => Results.sparse X (i 0) (i 1) := by
  funext i
  idx_vars i
  exact sparse_at X i0 i1

/-- Nothing that is kept is negative, so its magnitude is itself. -/
theorem size_array (X : Mat) : Host.absf (F := Ideal) (φ := .f32) (pruned (scaled X)) = fun i => Results.sparse X (i 0) (i 1) := by
  rw [sparse_array]
  funext i
  exact mag_of_nonneg (keep_nonneg (Results.mags_nonneg X (i 0)) 8 (i 1))

theorem prod_array (X : Mat) (Z : FVec Ideal S4096x512 .f32) : prod X Z = fun i => Results.prod X Z (i 0) (i 1) := by
  funext i
  idx_vars i
  exact prod_at X Z i0 i1

/-- The reference runs to the six results in closed form, its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v44) = (fun i => Results.prod (argX m c) (argZ m c) (i 0) (i 1) : S4096x512.Idx → EReal)
      ∧ r.2.mem ((c.tc : Thread nD τ).loc main_v11) = (fun i => Results.scaled (argX m c) (i 0) (i 1) : S4096x4096.Idx → EReal)
      ∧ r.2.mem ((c.tc : Thread nD τ).loc main_v43) = (fun i => Results.sparse (argX m c) (i 0) (i 1) : S4096x4096.Idx → EReal)
      ∧ r.2.mem ((c.tc : Thread nD τ).loc main_v64) = (fun i => Results.sparse (argX m c) (i 0) (i 1) : S4096x4096.Idx → EReal)
      ∧ r.2.mem ((c.tc : Thread nD τ).loc main_v48) = (fun _ => Results.recLoss (argX m c) (argZ m c) : S_.Idx → EReal)
      ∧ r.2.mem ((c.tc : Thread nD τ).loc main_v63) = (fun _ => Results.smoothLoss (argX m c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h0, h1, h2, h3, h4, h5, hargs⟩ := h c
      exact ⟨h0.trans ((prod_eq m c).trans (prod_array _ _)), h1.trans (scaled_array (argX m c)),
        h2.trans ((pruned_eq m c).trans (sparse_array _)), h3.trans ((size_eq m c).trans (size_array _)),
        h4.trans ((recLoss_eq m c).trans (funext (recLoss_at _ _))), h5.trans (funext (smoothLoss_at (argX m c))), hargs⟩)
    (Value.run m ρ)

end Cert.Ref

end
-- ==== Proof.Equation.lean ====
/-
  The equation of the two programs: from memories that agree on the arguments both run, and end with the same six results.
-/
module

public import proofs.«01_k».proof.Defs
public import proofs.«01_k».proof.Proof.Sums
public import proofs.«01_k».proof.Proof.ReferenceRun
public import Idealize.ShloMosaic.Lib.Claim

@[expose] public section

set_option maxRecDepth 16384

noncomputable section

namespace Cert.Equation

open Idealize.ShloMosaic Idealize.ShloMosaic.TcCoe Idealize.SL.Sem
open Cert.KernelIdeal Cert.KernelIdeal.Gen

attribute [local instance] Cert.KernelIdeal.Gen.facts Cert.ReferenceIdeal.Gen.facts

/-- Kernel and reference, both read over the extended reals, end with equal results and unchanged arguments. -/
theorem algebraic : Cert.algebraic_KernelIdeal_ReferenceIdeal := by
  intro m g m' g' _ hagree
  have hX : ∀ c, Ref.argX m' c = Arrays.argX m c := fun c => (hagree c).2.2
  have hZ : ∀ c, Ref.argZ m' c = Arrays.argZ m c := fun c => (hagree c).1
  refine ⟨fun c => (fun i => Results.prod (Arrays.argX m c) (Arrays.argZ m c) (i 0) (i 1) : S4096x512.Idx → EReal),
    fun c => (fun i => Results.scaled (Arrays.argX m c) (i 0) (i 1) : S4096x4096.Idx → EReal),
    fun c => (fun i => Results.sparse (Arrays.argX m c) (i 0) (i 1) : S4096x4096.Idx → EReal),
    fun c => (fun i => Results.sparse (Arrays.argX m c) (i 0) (i 1) : S4096x4096.Idx → EReal),
    fun c => (fun _ => Results.recLoss (Arrays.argX m c) (Arrays.argZ m c) : S_.Idx → EReal),
    fun c => (fun _ => Results.smoothLoss (Arrays.argX m c) : S_.Idx → EReal), ?_, ?_⟩
  · run_from (Cert.KernelIdeal.Gen.run_main m g)
    · exact Arrays.prod_array m c
    · exact Arrays.scaled_array m c
    · exact Arrays.sparse_array m c
    · exact Arrays.sparse_array m c
    · exact Arrays.rec_result m c
    · exact Arrays.smooth_result m c
    · exact W_main_arg1 m (dats m) c
  · refine (θ_run Cert.ReferenceIdeal.defs _ _).mono (fun _ h c => ?_) (Ref.run m' g')
    have h' := h c
    rw [hX, hZ] at h'
    exact h'

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The claims: the three programs run to completion, leave their arguments as they were and every semaphore counter
    at zero; idealizing the kernel rewrote nothing; and kernel and reference, read over the extended reals, end with
    equal results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => (θ_run Cert.ReferenceIdeal.defs _ _).mono
      (fun r h => ⟨fun c => (h c).2.2.2.2.2.2, sem_eq_zero_of_no_sems (by decide) r.2⟩)
      (Cert.ReferenceIdeal.Value.run m ρ),
    trivial, Cert.Equation.algebraic⟩

end Cert.Proof

end
